-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_values) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x128 : Shape := ⟨2, ![4096, 128]⟩
abbrev S4096 : Shape := ⟨1, ![4096]⟩
abbrev S128x128 : Shape := ⟨2, ![128, 128]⟩
abbrev S_ : Shape := ⟨0, ![]⟩
abbrev S4096x4096 : Shape := ⟨2, ![4096, 4096]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x128 .f32) (main_arg1 : IVec S4096 32) (main_arg2 : FVec F S128x128 .f32) (main_arg3 : FVec F S128x128 .f32) (main_arg4 : FVec F S_ .f32) (main_arg5 : FVec F S4096x4096 .f32) : IVec S_ 1 × IVec S_ 1 × IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_cst_2 : FVec F S_ .f32 := constant S_ .f32 0x322BCC77#32
  let main_v8 : FVec F S4096x4096 .f32 := broadcastInDim S4096x4096 ![] bcast_S_S4096x4096 main_cst_2
  let main_v9 : FVec F S4096x4096 .f32 := addf main_arg5 main_v8
  let main_cst_3 : FVec F S_ .f32 := constant S_ .f32 0x3F800000#32
  let main_v10 : FVec F S4096x4096 .f32 := broadcastInDim S4096x4096 ![] bcast_S_S4096x4096 main_cst_3
  let main_v11 : IVec S4096x4096 1 := cmpf .olt main_v9 main_v10
  let main_c_4 : IVec S_ 1 := constantI S_ 1 1#1
  let main_v12 : IVec S_ 1 := (fun x v => Host.reduce IntOp.andi x v reducesTo_S4096x4096_S_d0_1 h_S_) main_v11 main_c_4
  (main_v3, main_v7, main_v12)
-- ==== Kernel.lean ====
abbrev S4096x128 : Shape := ⟨2, ![4096, 128]⟩
abbrev S4096 : Shape := ⟨1, ![4096]⟩
abbrev S128x128 : Shape := ⟨2, ![128, 128]⟩
abbrev S_ : Shape := ⟨0, ![]⟩
abbrev S4096x4096 : Shape := ⟨2, ![4096, 4096]⟩
abbrev S128x4096 : Shape := ⟨2, ![128, 4096]⟩
abbrev S1x4096 : Shape := ⟨2, ![1, 4096]⟩
abbrev S1x1 : Shape := ⟨2, ![1, 1]⟩
abbrev S4096x8 : Shape := ⟨2, ![4096, 8]⟩
abbrev S256x128 : Shape := ⟨2, ![256, 128]⟩
abbrev S256x4096 : Shape := ⟨2, ![256, 4096]⟩
abbrev S256x8 : Shape := ⟨2, ![256, 8]⟩
abbrev S256 : Shape := ⟨1, ![256]⟩
abbrev S256x1 : Shape := ⟨2, ![256, 1]⟩
abbrev S1x4096x1 : Shape := ⟨3, ![1, 4096, 1]⟩
abbrev S1x1x1x4096x1x1 : Shape := ⟨6, ![1, 1, 1, 4096, 1, 1]⟩
abbrev S1x1x1x4096x8x1 : Shape := ⟨6, ![1, 1, 1, 4096, 8, 1]⟩
abbrev S1x4096x8 : Shape := ⟨3, ![1, 4096, 8]⟩
abbrev S1x32768 : Shape := ⟨2, ![1, 32768]⟩
abbrev S1x1x32768 : Shape := ⟨3, ![1, 1, 32768]⟩
abbrev S1x2x32768 : Shape := ⟨3, ![1, 2, 32768]⟩

abbrev nBuf : Space → Nat
  | .hbm => 23
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S4096x4096, .f32⟩
  | .hbm, ⟨6, _⟩ => ⟨S4096x128, .f32⟩
  | .hbm, ⟨7, _⟩ => ⟨S4096x128, .f32⟩
  | .hbm, ⟨8, _⟩ => ⟨S128x4096, .f32⟩
  | .hbm, ⟨9, _⟩ => ⟨S1x4096, .f32⟩
  | .hbm, ⟨10, _⟩ => ⟨S1x1, .f32⟩
  | .hbm, ⟨11, _⟩ => ⟨S4096x8, .f32⟩
  | .hbm, ⟨12, _⟩ => ⟨S4096x8, .i32⟩
  | .hbm, ⟨13, _⟩ => ⟨S4096, .i32⟩
  | .hbm, ⟨14, _⟩ => ⟨S1x4096x1, .i32⟩
  | .hbm, ⟨15, _⟩ => ⟨S1x1x1x4096x1x1, .i32⟩
  | .hbm, ⟨16, _⟩ => ⟨S1x1x1x4096x8x1, .i32⟩
  | .hbm, ⟨17, _⟩ => ⟨S1x4096x8, .i32⟩
  | .hbm, ⟨18, _⟩ => ⟨S1x32768, .i32⟩
  | .hbm, ⟨19, _⟩ => ⟨S1x32768, .i32⟩
  | .hbm, ⟨20, _⟩ => ⟨S1x1x32768, .i32⟩
  | .hbm, ⟨21, _⟩ => ⟨S1x1x32768, .i32⟩
  | .hbm, ⟨22, _⟩ => ⟨S1x2x32768, .i32⟩
  | .local _ .vmem, ⟨0, _⟩ => ⟨S4096x128, .f32⟩
  | .local _ .vmem, ⟨1, _⟩ => ⟨S128x128, .f32⟩
  | .local _ .vmem, ⟨2, _⟩ => ⟨S128x128, .f32⟩
  | .local _ .vmem, ⟨3, _⟩ => ⟨S4096x128, .f32⟩
  | .local _ .vmem, ⟨4, _⟩ => ⟨S4096x128, .f32⟩
  | .local _ .vmem, ⟨5, _⟩ => ⟨S128x4096, .f32⟩
  | .local _ .vmem, ⟨6, _⟩ => ⟨S1x4096, .f32⟩
  | .local _ .vmem, ⟨7, _⟩ => ⟨S1x1, .f32⟩
  | .local _ .vmem, ⟨8, _⟩ => ⟨S256x128, .f32⟩
  | .local _ .vmem, ⟨9, _⟩ => ⟨S256x128, .f32⟩
  | .local _ .vmem, ⟨10, _⟩ => ⟨S128x4096, .f32⟩
  | .local _ .vmem, ⟨11, _⟩ => ⟨S1x4096, .f32⟩
  | .local _ .vmem, ⟨12, _⟩ => ⟨S256x4096, .f32⟩
  | .local _ .vmem, ⟨13, _⟩ => ⟨S256x4096, .f32⟩
  | .local _ .vmem, ⟨14, _⟩ => ⟨S256x8, .f32⟩
  | .local _ .vmem, ⟨15, _⟩ => ⟨S256x8, .f32⟩
  | .local _ .vmem, ⟨16, _⟩ => ⟨S256x8, .i32⟩
  | .local _ .vmem, ⟨17, _⟩ => ⟨S256x8, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x8 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S4096x128 : Shape := ⟨2, ![4096, 128]⟩
abbrev S4096 : Shape := ⟨1, ![4096]⟩
abbrev S128x128 : Shape := ⟨2, ![128, 128]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩
abbrev S128x4096 : Shape := ⟨2, ![128, 4096]⟩
abbrev S4096x8 : Shape := ⟨2, ![4096, 8]⟩
abbrev S1x4096x1 : Shape := ⟨3, ![1, 4096, 1]⟩
abbrev S1x1x1x4096x1x1 : Shape := ⟨6, ![1, 1, 1, 4096, 1, 1]⟩
abbrev S1x1x1x4096x8x1 : Shape := ⟨6, ![1, 1, 1, 4096, 8, 1]⟩
abbrev S1x4096x8 : Shape := ⟨3, ![1, 4096, 8]⟩
abbrev S1x32768 : Shape := ⟨2, ![1, 32768]⟩
abbrev S1x1x32768 : Shape := ⟨3, ![1, 1, 32768]⟩
abbrev S1x2x32768 : Shape := ⟨3, ![1, 2, 32768]⟩

abbrev nBuf : Space → Nat
  | .hbm => 54
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S4096x4096, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S128x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x8, .f32⟩
  | .hbm, ⟨43, _⟩ => ⟨S4096x8, .i32⟩
  | .hbm, ⟨44, _⟩ => ⟨S4096, .i32⟩
  | .hbm, ⟨45, _⟩ => ⟨S1x4096x1, .i32⟩
  | .hbm, ⟨46, _⟩ => ⟨S1x1x1x4096x1x1, .i32⟩
  | .hbm, ⟨47, _⟩ => ⟨S1x1x1x4096x8x1, .i32⟩
  | .hbm, ⟨48, _⟩ => ⟨S1x4096x8, .i32⟩
  | .hbm, ⟨49, _⟩ => ⟨S1x32768, .i32⟩
  | .hbm, ⟨50, _⟩ => ⟨S1x32768, .i32⟩
  | .hbm, ⟨51, _⟩ => ⟨S1x1x32768, .i32⟩
  | .hbm, ⟨52, _⟩ => ⟨S1x1x32768, .i32⟩
  | .hbm, ⟨53, _⟩ => ⟨S1x2x32768, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_values : Ref sig .tc := ⟨.hbm, 42, rfl⟩
abbrev main_indices : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.Order.lean ====
/-
  The order in which the eight largest entries of a row are taken, on bare functions.

  `lead f r` is the place that a stable descending sort of `f` puts at rank `r`. `rest f r` is `f` with the places of
  the first `r` ranks lowered to `⊥`. Where no entry of `f` is `⊥`, the largest entry of `rest f r` is the entry at
  `lead f r`, and `lead f r` is the first place where that largest entry stands. So repeated maximum with the smallest
  place on ties follows the stable sort.
-/
module

public import Idealize.ShloMosaic.Lib.SortFacts
public import Mathlib.Data.EReal.Basic

@[expose] public section

noncomputable section

namespace Cert.Order

open Idealize.ShloMosaic

variable {n : Nat}

/-! ## Stability of the insertion sort -/

/-- Inserting `a` keeps "strictly before, or not after and earlier": `a` is earlier than every member of the list. -/
theorem pairwise_insert {before : Fin n → Fin n → Bool} (htrans : ∀ a b c, before a b = true → before c b = false → before a c = true)
    (hasym : ∀ a b, before a b = true → before b a = false) (a : Fin n) (l : List (Fin n)) (ha : ∀ b ∈ l, a < b)
    (hl : l.Pairwise fun b c => before b c = true ∨ (before c b = false ∧ b < c)) :
    (insertBefore before a l).Pairwise fun b c => before b c = true ∨ (before c b = false ∧ b < c) := by
  induction l with
  | nil => simp [insertBefore]
  | cons b l ih =>
    rw [List.pairwise_cons] at hl
    unfold insertBefore
    split
    · rename_i hba
      refine List.pairwise_cons.2 ⟨fun c hc => ?_, ih (fun c hc => ha c (List.mem_cons_of_mem _ hc)) hl.2⟩
      have : c = a ∨ c ∈ l := by
        have hp := (perm_insertBefore before a l).subset hc
        simpa using hp
      rcases this with rfl | hc
      · exact Or.inl hba
      · exact hl.1 c hc
    · rename_i hba
      have hba : before b a = false := by simpa using hba
      refine List.pairwise_cons.2 ⟨fun c hc => ?_, List.pairwise_cons.2 hl⟩
      rcases List.mem_cons.1 hc with rfl | hc'
      · exact Or.inr ⟨hba, ha _ List.mem_cons_self⟩
      · refine Or.inr ⟨?_, ha c hc⟩
        by_contra hca
        have hca : before c a = true := by simpa using hca
        rcases hl.1 c hc' with hbc | ⟨hcb, _⟩
        · have h1 : before c b = true := htrans c a b hca hba
          rw [hasym b c hbc] at h1
          exact absurd h1 (by simp)
        · have h1 : before c b = true := htrans c a b hca hba
          rw [hcb] at h1
          exact absurd h1 (by simp)

/-- A stable sort of an increasing list: earlier in the result means strictly before, or not after and earlier in the list. -/
theorem pairwise_stable {before : Fin n → Fin n → Bool} (htrans : ∀ a b c, before a b = true → before c b = false → before a c = true)
    (hasym : ∀ a b, before a b = true → before b a = false) (l : List (Fin n)) (hl : l.Pairwise (· < ·)) :
    (stableSort before l).Pairwise fun b c => before b c = true ∨ (before c b = false ∧ b < c) := by
  induction l with
  | nil => simp [stableSort]
  | cons a l ih =>
    rw [List.pairwise_cons] at hl
    refine pairwise_insert htrans hasym a _ (fun b hb => hl.1 b ((perm_stableSort before l).subset hb)) (ih hl.2)

/-! ## The descending order of a row -/

/-- The place of rank `r` in the stable descending order of `f`. -/
def lead (f : Fin n → EReal) (r : Fin n) : Fin n := sortedFrom (fun k k' => decide (f k' < f k)) r

/-- Between two ranks the earlier holds the larger entry, or an equal one at an earlier place. -/
theorem lead_lt (f : Fin n → EReal) {a b : Fin n} (h : a < b) :
    f (lead f b) < f (lead f a) ∨ (f (lead f a) = f (lead f b) ∧ lead f a < lead f b) := by
  have hp := pairwise_stable (before := fun k k' : Fin n => decide (f k' < f k))
    (fun a b c h1 h2 => by
      simp only [decide_eq_true_eq, decide_eq_false_iff_not, not_lt] at *
      exact lt_of_le_of_lt h2 h1)
    (fun a b h1 => by
      simp only [decide_eq_true_eq, decide_eq_false_iff_not, not_lt] at *
      exact h1.le) (List.finRange n) (List.pairwise_lt_finRange n)
  have := List.pairwise_iff_get.1 hp (a.cast (length_sortPositions n _).symm) (b.cast (length_sortPositions n _).symm) h
  simp only [decide_eq_true_eq, decide_eq_false_iff_not, not_lt] at this
  change f (lead f b) < f (lead f a) ∨ (f (lead f b) ≤ f (lead f a) ∧ lead f a < lead f b) at this
  rcases this with h1 | ⟨h1, h2⟩
  · exact Or.inl h1
  · rcases h1.lt_or_eq with h3 | h3
    · exact Or.inl h3
    · exact Or.inr ⟨h3.symm, h2⟩

theorem lead_injective (f : Fin n → EReal) : Function.Injective (lead f) := sortedFrom_injective _

theorem lead_surjective (f : Fin n → EReal) : Function.Surjective (lead f) := sortedFrom_surjective _

/-! ## What is left after the first ranks -/

/-- The row with the places of its first `r` ranks lowered to `⊥`. -/
def rest (f : Fin n → EReal) (r : Nat) (i : Fin n) : EReal := by
  classical exact if ∃ s : Fin n, s.val < r ∧ lead f s = i then ⊥ else f i

theorem rest_zero (f : Fin n → EReal) : rest f 0 = f := by
  funext i; unfold rest; rw [if_neg]; rintro ⟨s, hs, _⟩; omega

/-- At the rank's own place the row still has its entry. -/
theorem rest_lead (f : Fin n → EReal) (r : Fin n) : rest f r.val (lead f r) = f (lead f r) := by
  unfold rest; rw [if_neg]
  rintro ⟨s, hs, h⟩
  have := lead_injective f h
  subst this; omega

/-- One more rank lowers one more place. -/
theorem rest_succ (f : Fin n → EReal) (r : Fin n) (i : Fin n) :
    rest f (r.val + 1) i = if i = lead f r then ⊥ else rest f r.val i := by
  unfold rest
  by_cases hi : i = lead f r
  · rw [if_pos hi, if_pos ⟨r, by omega, hi.symm⟩]
  · rw [if_neg hi]
    have : (∃ s : Fin n, s.val < r.val + 1 ∧ lead f s = i) ↔ ∃ s : Fin n, s.val < r.val ∧ lead f s = i := by
      constructor
      · rintro ⟨s, hs, h⟩
        refine ⟨s, ?_, h⟩
        rcases Nat.lt_succ_iff_lt_or_eq.1 hs with h1 | h1
        · exact h1
        · exact absurd (by rw [← h, Fin.ext h1]) hi
      · rintro ⟨s, hs, h⟩; exact ⟨s, by omega, h⟩
    simp only [this]

/-- Every entry left is at most the one at the next rank; where it equals it, its place is not earlier. -/
theorem rest_le (f : Fin n → EReal) (hf : ∀ i, ⊥ < f i) (r : Fin n) (i : Fin n) :
    rest f r.val i < f (lead f r) ∨ (rest f r.val i = f (lead f r) ∧ lead f r ≤ i) := by
  obtain ⟨s, rfl⟩ := lead_surjective f i
  by_cases hs : s.val < r.val
  · left
    have : rest f r.val (lead f s) = ⊥ := by unfold rest; rw [if_pos ⟨s, hs, rfl⟩]
    rw [this]; exact hf _
  · have hrest : rest f r.val (lead f s) = f (lead f s) := by
      unfold rest; rw [if_neg]; rintro ⟨t, ht, h⟩
      have := lead_injective f h
      subst this; exact hs ht
    rw [hrest]
    rcases (Nat.not_lt.1 hs).lt_or_eq with h | h
    · rcases lead_lt f (a := r) (b := s) h with h1 | ⟨h1, h2⟩
      · exact Or.inl h1
      · exact Or.inr ⟨h1.symm, h2.le⟩
    · rw [Fin.ext h]; exact Or.inr ⟨rfl, le_rfl⟩

/-- The largest entry left is the one at the next rank. -/
theorem fold_max_rest (f : Fin n → EReal) (hf : ∀ i, ⊥ < f i) (r : Fin n) :
    Finset.univ.fold max ⊥ (rest f r.val) = f (lead f r) := by
  apply le_antisymm
  · refine (Finset.fold_max_le _).2 ⟨bot_le, fun i _ => ?_⟩
    rcases rest_le f hf r i with h | ⟨h, _⟩
    · exact h.le
    · exact h.le
  · exact (Finset.le_fold_max _).2 (Or.inr ⟨lead f r, Finset.mem_univ _, (rest_lead f r).ge⟩)

/-- The places where the largest entry left stands, as numbers, and `⊤` elsewhere. -/
def cands (f : Fin n → EReal) (r : Fin n) (i : Fin n) : EReal := if rest f r.val i = f (lead f r) then ((i.val : ℝ) : EReal) else ⊤

/-- The smallest of them is the next rank's place. -/
theorem fold_min_cands (f : Fin n → EReal) (hf : ∀ i, ⊥ < f i) (r : Fin n) :
    Finset.univ.fold min ⊤ (cands f r) = (((lead f r).val : ℝ) : EReal) := by
  apply le_antisymm
  · refine (Finset.fold_min_le _).2 (Or.inr ⟨lead f r, Finset.mem_univ _, ?_⟩)
    unfold cands; rw [if_pos (rest_lead f r)]
  · refine (Finset.le_fold_min _).2 ⟨le_top, fun i _ => ?_⟩
    unfold cands
    split
    · rename_i h
      rcases rest_le f hf r i with h1 | ⟨_, h2⟩
      · exact absurd h h1.ne
      · exact EReal.coe_le_coe_iff.2 (by exact_mod_cast h2)
    · exact le_top

/-- A candidate equals the smallest one only at the next rank's place. -/
theorem cands_eq_iff (f : Fin n → EReal) (r : Fin n) (i : Fin n) :
    cands f r i = (((lead f r).val : ℝ) : EReal) ↔ i = lead f r := by
  constructor
  · intro h
    unfold cands at h
    split at h
    · have := EReal.coe_eq_coe_iff.1 h
      exact Fin.ext (by exact_mod_cast this)
    · exact absurd h.symm (EReal.coe_ne_top _)
  · rintro rfl
    unfold cands; rw [if_pos (rest_lead f r)]

end Cert.Order

end
-- ==== Proof.Rounds.lean ====
/-
  The eight rounds of the selection kernel, each as a pure function of the block it works on.

  A round takes every row's largest entry, then the smallest column number that holds it, then lowers that place to `−∞`.
  The block's two results are the eight rounds' entries and column numbers side by side. On a row with no entry at `−∞`
  the rounds follow the row's stable descending order (Order.lean).
-/
module

public import proofs.«01_k».proof.Proof.Gen.KernelIdeal.Skeleton
public import proofs.«01_k».proof.Proof.Order
public import Idealize.ShloMosaic.Lib.Pointwise

@[expose] public section

set_option maxRecDepth 16384

noncomputable section

namespace Cert.KernelIdeal.Rounds

open Idealize.ShloMosaic Idealize.ShloMosaic.Pointwise
open Cert.KernelIdeal Cert.KernelIdeal.Gen Cert.Order

/-- Every row's largest entry. -/
def top (w : FVec Ideal S256x4096 .f32) : FVec Ideal S256x1 .f32 :=
  shapeCast S256x1 (multiReduction .maximumf [1] S256 w 0xFF800000#32 reduces_S256x4096_S256 (.inl rfl) rfl) shapeCasts_S256_S256x1

/-- The column number where the row's largest entry stands, `+∞` elsewhere. -/
def marks (w : FVec Ideal S256x4096 .f32) : FVec Ideal S256x4096 .f32 :=
  select (cmpf .oeq w (broadcastTo S256x4096 (top w) broadcasts_S256x1_S256x4096)) (k1_pay3 (F := Ideal))
    (broadcast S256x4096 (Scalar.ofBits .f32 0x7F800000#32 : Ideal .f32))

/-- Every row's smallest such column number. -/
def pick (w : FVec Ideal S256x4096 .f32) : FVec Ideal S256x1 .f32 :=
  shapeCast S256x1 (multiReduction .minimumf [1] S256 (marks w) 0x7F800000#32 reduces_S256x4096_S256 (.inl rfl) rfl) shapeCasts_S256_S256x1

/-- The block after the round: the picked places lowered to `−∞`. -/
def drop (w : FVec Ideal S256x4096 .f32) : FVec Ideal S256x4096 .f32 :=
  select (cmpf .oeq (marks w) (broadcastTo S256x4096 (pick w) broadcasts_S256x1_S256x4096))
    (broadcast S256x4096 (Scalar.ofBits .f32 0xFF800000#32 : Ideal .f32)) w

/-- The block before round `r`. -/
def left (w : FVec Ideal S256x4096 .f32) : Nat → FVec Ideal S256x4096 .f32
  | 0 => w
  | r + 1 => drop (left w r)

/-! ## A round at an index -/

theorem negInf : Ideal.ofBits .f32 0xFF800000#32 = ⊥ := by simp [Ideal.ofBits, Ideal.ieee]

theorem posInf : Ideal.ofBits .f32 0x7F800000#32 = ⊤ := by simp [Ideal.ofBits, Ideal.ieee]

/-- A column number's word reads back as the number. -/
theorem toInt_column (i : Fin 4096) : (BitVec.ofNat 32 i.val).toInt = (i.val : ℤ) := by
  have := i.isLt
  rw [BitVec.toInt_eq_toNat_of_lt (by rw [BitVec.toNat_ofNat]; omega), BitVec.toNat_ofNat, Nat.mod_eq_of_lt (by omega)]

theorem top_apply (w : FVec Ideal S256x4096 .f32) (p : Fin 256) (q : Fin 1) :
    top w (ix2 p q) = Finset.univ.fold max ⊥ fun i : Fin 4096 => w (ix2 p i) := by
  pointwise [top]
  rw [negInf]

theorem iota_apply (p : Fin 256) (i : Fin 4096) : k1_pay3 (F := Ideal) (ix2 p i) = ((i.val : ℝ) : EReal) := by
  pointwise [k1_pay3]
  change (((BitVec.ofNat 32 i.val).toInt : ℝ) : EReal) = _
  rw [toInt_column, Int.cast_natCast]

theorem marks_apply (w : FVec Ideal S256x4096 .f32) (p : Fin 256) (i : Fin 4096) :
    marks w (ix2 p i) = if w (ix2 p i) = top w (ix2 p 0) then ((i.val : ℝ) : EReal) else ⊤ := by
  pointwise [marks]
  rw [iota_apply, posInf]

theorem pick_apply (w : FVec Ideal S256x4096 .f32) (p : Fin 256) (q : Fin 1) :
    pick w (ix2 p q) = Finset.univ.fold min ⊤ fun i : Fin 4096 => marks w (ix2 p i) := by
  pointwise [pick]
  rw [posInf]

theorem drop_apply (w : FVec Ideal S256x4096 .f32) (p : Fin 256) (i : Fin 4096) :
    drop w (ix2 p i) = if marks w (ix2 p i) = pick w (ix2 p 0) then ⊥ else w (ix2 p i) := by
  pointwise [drop]
  rw [negInf]

/-! ## The rounds follow the row's descending order -/

section Row

variable (w : FVec Ideal S256x4096 .f32) (p : Fin 256) (f : Fin 4096 → EReal) (hf : ∀ i, ⊥ < f i) (r : Fin 4096)
  (hw : ∀ i, w (ix2 p i) = rest f r.val i)
include hf hw

theorem top_row (q : Fin 1) : top w (ix2 p q) = f (lead f r) := by
  rw [top_apply, ← fold_max_rest f hf r]
  simp only [hw]

theorem marks_row (i : Fin 4096) : marks w (ix2 p i) = cands f r i := by
  rw [marks_apply, top_row w p f hf r hw, hw]; rfl

theorem pick_row (q : Fin 1) : pick w (ix2 p q) = (((lead f r).val : ℝ) : EReal) := by
  rw [pick_apply, ← fold_min_cands f hf r]
  simp only [marks_row w p f hf r hw]

theorem drop_row (i : Fin 4096) : drop w (ix2 p i) = rest f (r.val + 1) i := by
  rw [drop_apply, marks_row w p f hf r hw, pick_row w p f hf r hw, rest_succ, hw]
  simp only [cands_eq_iff]

end Row

/-- Before round `r` the row stands as its descending order leaves it. -/
theorem left_row (w : FVec Ideal S256x4096 .f32) (p : Fin 256) (f : Fin 4096 → EReal) (hf : ∀ i, ⊥ < f i)
    (hw : ∀ i, w (ix2 p i) = f i) (r : Nat) (hr : r < 4096) (i : Fin 4096) : left w r (ix2 p i) = rest f r i := by
  induction r generalizing i with
  | zero => rw [rest_zero]; exact hw i
  | succ r ih => exact drop_row (left w r) p f hf ⟨r, by omega⟩ (fun i => ih (by omega) i) i

/-! ## The block's two results -/

/-- The eight rounds' entries side by side. -/
def vals (w : FVec Ideal S256x4096 .f32) : FVec Ideal S256x8 .f32 :=
  concatenate S256x8 1 [⟨S256x1, top (left w 0)⟩, ⟨S256x1, top (left w 1)⟩, ⟨S256x1, top (left w 2)⟩, ⟨S256x1, top (left w 3)⟩,
    ⟨S256x1, top (left w 4)⟩, ⟨S256x1, top (left w 5)⟩, ⟨S256x1, top (left w 6)⟩, ⟨S256x1, top (left w 7)⟩]
    concatenates_S256x1_S256x1_S256x1_S256x1_S256x1_S256x1_S256x1_S256x1_S256x8_d1

/-- The eight rounds' column numbers side by side. -/
def cols (w : FVec Ideal S256x4096 .f32) : FVec Ideal S256x8 .f32 :=
  concatenate S256x8 1 [⟨S256x1, pick (left w 0)⟩, ⟨S256x1, pick (left w 1)⟩, ⟨S256x1, pick (left w 2)⟩, ⟨S256x1, pick (left w 3)⟩,
    ⟨S256x1, pick (left w 4)⟩, ⟨S256x1, pick (left w 5)⟩, ⟨S256x1, pick (left w 6)⟩, ⟨S256x1, pick (left w 7)⟩]
    concatenates_S256x1_S256x1_S256x1_S256x1_S256x1_S256x1_S256x1_S256x1_S256x8_d1

theorem vals_apply (w : FVec Ideal S256x4096 .f32) (p : Fin 256) (k : Fin 8) : vals w (ix2 p k) = top (left w k.val) (ix2 p 0) := by
  fin_cases k <;> pointwise [vals]

theorem cols_apply (w : FVec Ideal S256x4096 .f32) (p : Fin 256) (k : Fin 8) : cols w (ix2 p k) = pick (left w k.val) (ix2 p 0) := by
  fin_cases k <;> pointwise [cols]

/-- A column number read back as a word. -/
theorem fptosi_column (i : Fin 4096) : Ideal.fptosi 32 ((i.val : ℝ) : EReal) = BitVec.ofNat 32 i.val := by
  have hi := i.isLt
  have h0 : (0 : ℝ) ≤ (i.val : ℝ) := Nat.cast_nonneg _
  have he : max (-((2 ^ (32 - 1) : Nat) : ℤ)) (min (((2 ^ (32 - 1) : Nat) : ℤ) - 1) (i.val : ℤ)) = (i.val : ℤ) := by
    rw [show ((2 ^ (32 - 1) : Nat) : ℤ) = 2147483648 from by norm_num]
    omega
  rw [Ideal.fptosi, Ideal.toIntClamped_coe, if_pos h0, Int.floor_natCast, he, BitVec.ofInt_natCast]

/-- Rank `k` of row `p`: the entry. -/
theorem vals_row (w : FVec Ideal S256x4096 .f32) (p : Fin 256) (f : Fin 4096 → EReal) (hf : ∀ i, ⊥ < f i)
    (hw : ∀ i, w (ix2 p i) = f i) (k : Fin 8) : vals w (ix2 p k) = f (lead f ⟨k.val, by omega⟩) := by
  rw [vals_apply]
  exact top_row _ p f hf ⟨k.val, by omega⟩ (fun i => left_row w p f hf hw k.val (by omega) i) 0

/-- Rank `k` of row `p`: the column number's word. -/
theorem cols_row (w : FVec Ideal S256x4096 .f32) (p : Fin 256) (f : Fin 4096 → EReal) (hf : ∀ i, ⊥ < f i)
    (hw : ∀ i, w (ix2 p i) = f i) (k : Fin 8) :
    k1_pay1 (cols w) (ix2 p k) = BitVec.ofNat 32 (lead f ⟨k.val, by omega⟩).val := by
  unfold k1_pay1
  change Ideal.fptosi 32 (cols w (ix2 p k)) = _
  rw [cols_apply, pick_row _ p f hf ⟨k.val, by omega⟩ (fun i => left_row w p f hf hw k.val (by omega) i) 0, fptosi_column]

/-! ## The printed payloads are the rounds -/

section Printed

variable (a : Vec Ideal S1x1 .f32) (b : Vec Ideal S256x128 .f32) (s : Vec Ideal S1x4096 .f32) (d : Vec Ideal S128x4096 .f32)
  (q : Vec Ideal S256x4096 .f32)

theorem printed_vals :
    k1_pay34 (F := Ideal) k1_pay3 (k1_pay4 a b s d q) (k1_pay8 (k1_pay2 a b s d q) (k1_pay5 a b s d q))
        (k1_pay12 (k1_pay2 a b s d q) k1_pay3 (k1_pay5 a b s d q)) (k1_pay16 (k1_pay2 a b s d q) k1_pay3 (k1_pay5 a b s d q))
        (k1_pay19 (k1_pay2 a b s d q) k1_pay3 (k1_pay5 a b s d q)) (k1_pay20 (k1_pay2 a b s d q) k1_pay3 (k1_pay5 a b s d q))
        (k1_pay21 (k1_pay2 a b s d q) k1_pay3 (k1_pay5 a b s d q))
      = vals (k1_pay2 a b s d q) := rfl

theorem printed_cols :
    k1_pay35 (F := Ideal) k1_pay3 (k1_pay6 (k1_pay5 a b s d q)) (k1_pay10 (k1_pay2 a b s d q) k1_pay3 (k1_pay5 a b s d q))
        (k1_pay14 (k1_pay2 a b s d q) k1_pay3 (k1_pay5 a b s d q)) (k1_pay18 (k1_pay2 a b s d q) k1_pay3 (k1_pay5 a b s d q))
        (k1_pay19 (k1_pay2 a b s d q) k1_pay3 (k1_pay5 a b s d q))
        (k1_pay21 (k1_pay2 a b s d q) k1_pay3 (k1_pay5 a b s d q))
      = cols (k1_pay2 a b s d q) := rfl

end Printed

end Cert.KernelIdeal.Rounds

end
-- ==== Proof.Score.lean ====
/-
  One entry of the score block, and the encoding kernel's four results, at an index.
-/
module

public import proofs.«01_k».proof.Proof.Gen.KernelIdeal.Skeleton
public import Idealize.ShloMosaic.Lib.Pointwise

@[expose] public section

set_option maxRecDepth 16384

noncomputable section

namespace Cert.KernelIdeal.Score

open Idealize.ShloMosaic Idealize.ShloMosaic.Pointwise
open Cert.KernelIdeal Cert.KernelIdeal.Gen

/-- An entry of the score block: from the temperature, the row's encoding, the column's squared norm and doubled encoding,
    and the draw there. -/
def entry (a : EReal) (b : Fin 128 → EReal) (s : EReal) (d : Fin 128 → EReal) (q : EReal) : EReal :=
  Ideal.log (0 - Ideal.log (q + Ideal.ofBits .f32 0x322BCC77#32))
    - Ideal.exp (min (Ideal.ofBits .f32 0x40A00000#32) (max (Ideal.ofBits .f32 0xC0A00000#32) a))
      * max ((∑ k, b k * b k) + s - ∑ k, b k * d k) 0

theorem score_apply (a : Vec Ideal S1x1 .f32) (b : Vec Ideal S256x128 .f32) (s : Vec Ideal S1x4096 .f32) (d : Vec Ideal S128x4096 .f32)
    (q : Vec Ideal S256x4096 .f32) (p : Fin 256) (i : Fin 4096) :
    k1_pay2 a b s d q (ix2 p i) = entry (a (ix2 0 0)) (fun k => b (ix2 p k)) (s (ix2 0 i)) (fun k => d (ix2 k i)) (q (ix2 p i)) := by
  pointwise [k1_pay2, entry]
  rfl

theorem base_apply (x : Vec Ideal S4096x128 .f32) (w : Vec Ideal S128x128 .f32) (r : Fin 4096) (j : Fin 128) :
    k0_pay1 x w (ix2 r j) = ∑ k : Fin 128, x (ix2 r k) * w (ix2 k j) := by
  pointwise [k0_pay1]

theorem embed_apply (x : Vec Ideal S4096x128 .f32) (w : Vec Ideal S128x128 .f32) (r : Fin 4096) (j : Fin 128) :
    k0_pay2 x w (ix2 r j) = ∑ k : Fin 128, x (ix2 r k) * w (ix2 k j) := by
  pointwise [k0_pay2]

theorem doubled_apply (x : Vec Ideal S4096x128 .f32) (w : Vec Ideal S128x128 .f32) (j : Fin 128) (r : Fin 4096) :
    k0_pay4 x w (ix2 j r) = Ideal.ofBits .f32 0x40000000#32 * k0_pay2 x w (ix2 r j) := by
  pointwise [k0_pay4, k0_pay3]

theorem squared_apply (x : Vec Ideal S4096x128 .f32) (w : Vec Ideal S128x128 .f32) (z : Fin 1) (r : Fin 4096) :
    k0_pay5 x w (ix2 z r) = ∑ j : Fin 128, k0_pay2 x w (ix2 r j) * k0_pay2 x w (ix2 r j) := by
  pointwise [k0_pay5, k0_pay3]

end Cert.KernelIdeal.Score

end
-- ==== Proof.Arrays.lean ====
/-
  What the two regions leave in their result arrays, as functions of the arrays they find.
-/
module

public import proofs.«01_k».proof.Proof.Gen.KernelIdeal.Frame
public import proofs.«01_k».proof.Proof.Rounds
public import proofs.«01_k».proof.Proof.Score
public import Idealize.ShloMosaic.Lib.Pipeline.Value
public import Idealize.ShloMosaic.Lib.Pipeline.ValueKit

@[expose] public section

set_option maxRecDepth 16384

noncomputable section

namespace Cert.KernelIdeal.Arrays

open Idealize.ShloMosaic Idealize.ShloMosaic.TcCoe Idealize.ShloMosaic.Pointwise Idealize.SL.Sem
open Idealize.ShloMosaic.Pipeline (Dat)
open Cert.KernelIdeal Cert.KernelIdeal.Gen Cert.Order

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-! ## The encoding region: one point, every block its whole array -/

theorem index0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem iblk0_0 (t : Fin cfg0.N) : (iblk0 V c 0 t : Vec Ideal S4096x128 .f32) = V c main_arg0 := by
  funext y
  blk_simp [iblk0]
  congr 1
  blk_ext [(index0 t).1]

theorem iblk0_1 (t : Fin cfg0.N) : (iblk0 V c 1 t : Vec Ideal S128x128 .f32) = V c main_arg2 := by
  funext y
  blk_simp [iblk0]
  congr 1
  blk_ext [(index0 t).2.1]

theorem iblk0_2 (t : Fin cfg0.N) : (iblk0 V c 2 t : Vec Ideal S128x128 .f32) = V c main_arg3 := by
  funext y
  blk_simp [iblk0]
  congr 1
  blk_ext [(index0 t).2.2.1]

theorem final0_3 : (dat0 V c).arrAt 3 cfg0.N = k0_pay1 (F := Ideal) (V c main_arg0) (V c main_arg2) := by
  refine (dat0 V c).arrAt_eq_of_covers 3 _ (by decide +kernel) fun t hf y => ?_
  blk_simp
  rw [after0_3]
  frame_out
  rw [iblk0_0, iblk0_1]
  congr 1
  blk_ext [(index0 t).2.2.2.1]

theorem final0_4 : (dat0 V c).arrAt 4 cfg0.N = k0_pay2 (F := Ideal) (V c main_arg0) (V c main_arg3) := by
  refine (dat0 V c).arrAt_eq_of_covers 4 _ (by decide +kernel) fun t hf y => ?_
  blk_simp
  rw [after0_4]
  frame_out
  rw [iblk0_0, iblk0_2]
  congr 1
  blk_ext [(index0 t).2.2.2.2.1]

theorem final0_5 : (dat0 V c).arrAt 5 cfg0.N = k0_pay4 (F := Ideal) (V c main_arg0) (V c main_arg3) := by
  refine (dat0 V c).arrAt_eq_of_covers 5 _ (by decide +kernel) fun t hf y => ?_
  blk_simp
  rw [after0_5]
  frame_out
  rw [iblk0_0, iblk0_2]
  congr 1
  blk_ext [(index0 t).2.2.2.2.2.1]

theorem final0_6 : (dat0 V c).arrAt 6 cfg0.N = k0_pay5 (F := Ideal) (V c main_arg0) (V c main_arg3) := by
  refine (dat0 V c).arrAt_eq_of_covers 6 _ (by decide +kernel) fun t hf y => ?_
  blk_simp
  rw [after0_6]
  frame_out
  rw [iblk0_0, iblk0_2]
  congr 1
  blk_ext [(index0 t).2.2.2.2.2.2]

/-! ## The selection region: sixteen points, each a block of 256 rows -/

theorem index1 : ∀ t : Fin cfg1.N, win1_0.index t = ![0, 0] ∧ win1_1.index t = ![t.val, 0] ∧ win1_2.index t = ![0, 0]
    ∧ win1_3.index t = ![0, 0] ∧ win1_4.index t = ![t.val, 0] ∧ win1_5.index t = ![t.val, 0] ∧ win1_6.index t = ![t.val, 0] :=
  (by decide +kernel : ∀ t : Fin grid1.N, _)

/-- Row `p` of block `t`, as a row of the whole array. -/
def row (t : Fin cfg1.N) (p : Fin 256) : Fin 4096 := ⟨t.val * 256 + p.val, by
  have h : cfg1.N = 16 := by decide +kernel
  have := t.isLt; have := p.isLt; omega⟩

/-- Place `k` of a row's eight, among all of its places. -/
def place (k : Fin 8) : Fin 4096 := ⟨k.val, by omega⟩

/-- The scores of all rows against all columns. -/
def scores (a : Vec Ideal S1x1 .f32) (b : Vec Ideal S4096x128 .f32) (d : Vec Ideal S128x4096 .f32) (s : Vec Ideal S1x4096 .f32)
    (q : Vec Ideal S4096x4096 .f32) (r i : Fin 4096) : EReal :=
  Score.entry (a (ix2 0 0)) (fun k => b (ix2 r k)) (s (ix2 0 i)) (fun k => d (ix2 k i)) (q (ix2 r i))

/-- The scores the selection region works on. -/
abbrev scored : Fin 4096 → Fin 4096 → EReal :=
  scores (V c main_v1) (V c main_v0_1) (V c main_v0_2) (V c main_v0_3) (V c main_arg5)

theorem iblk1_0 (t : Fin cfg1.N) : (iblk1 V c 0 t : Vec Ideal S1x1 .f32) (ix2 0 0) = V c main_v1 (ix2 0 0) := by
  blk_simp [iblk1]
  congr 1
  blk_ext [(index1 t).1]

theorem iblk1_1 (t : Fin cfg1.N) (p : Fin 256) (k : Fin 128) :
    (iblk1 V c 1 t : Vec Ideal S256x128 .f32) (ix2 p k) = V c main_v0_1 (ix2 (row t p) k) := by
  blk_simp [iblk1]
  congr 1
  blk_ext [(index1 t).2.1, row]

theorem iblk1_2 (t : Fin cfg1.N) (k : Fin 128) (i : Fin 4096) :
    (iblk1 V c 2 t : Vec Ideal S128x4096 .f32) (ix2 k i) = V c main_v0_2 (ix2 k i) := by
  blk_simp [iblk1]
  congr 1
  blk_ext [(index1 t).2.2.1]

theorem iblk1_3 (t : Fin cfg1.N) (i : Fin 4096) :
    (iblk1 V c 3 t : Vec Ideal S1x4096 .f32) (ix2 0 i) = V c main_v0_3 (ix2 0 i) := by
  blk_simp [iblk1]
  congr 1
  blk_ext [(index1 t).2.2.2.1]

theorem iblk1_4 (t : Fin cfg1.N) (p : Fin 256) (i : Fin 4096) :
    (iblk1 V c 4 t : Vec Ideal S256x4096 .f32) (ix2 p i) = V c main_arg5 (ix2 (row t p) i) := by
  blk_simp [iblk1]
  congr 1
  blk_ext [(index1 t).2.2.2.2.1, row]

/-- A block's scores are those of its rows. -/
theorem block_scores (t : Fin cfg1.N) (p : Fin 256) (i : Fin 4096) :
    k1_pay2 (F := Ideal) (iblk1 V c 0 t) (iblk1 V c 1 t) (iblk1 V c 3 t) (iblk1 V c 2 t) (iblk1 V c 4 t) (ix2 p i)
      = scored V c (row t p) i := by
  rw [Score.score_apply, iblk1_0, iblk1_3, iblk1_4]
  simp only [iblk1_1, iblk1_2]
  rfl

/-- The leading values of every row. -/
def leadVals (f : Fin 4096 → Fin 4096 → EReal) : Vec Ideal S4096x8 .f32 := fun i => f (i 0) (lead (f (i 0)) (place (i 1)))

/-- The columns of the leading values of every row. -/
def leadCols (f : Fin 4096 → Fin 4096 → EReal) : Vec Ideal S4096x8 .i32 := fun i => BitVec.ofNat 32 (lead (f (i 0)) (place (i 1))).val

theorem final1_5 (h : ∀ r i, ⊥ < scored V c r i) : (dat1 V c).arrAt 5 cfg1.N = leadVals (scored V c) := by
  refine (dat1 V c).arrAt_eq_of_covers 5 _ (by decide +kernel) fun t hf y => ?_
  blk_simp
  rw [after1_5]
  unfold_out out1_5
  frame_out
  obtain ⟨p, k, rfl⟩ : ∃ (p : Fin 256) (k : Fin 8), y = ix2 p k := ⟨y 0, y 1, eq_ix2 y⟩
  have e : (win1_5.blk t).view.emb (ix2 p k) = ix2 (row t p) k := by
    blk_ext [(index1 t).2.2.2.2.2.1, row]
  refine (congrFun (Rounds.printed_vals _ _ _ _ _) _).trans
    ((Rounds.vals_row _ p (scored V c (row t p)) (h _) (block_scores V c t p) k).trans ?_)
  exact (congrArg (leadVals (scored V c)) e).symm

theorem final1_6 (h : ∀ r i, ⊥ < scored V c r i) : (dat1 V c).arrAt 6 cfg1.N = leadCols (scored V c) := by
  refine (dat1 V c).arrAt_eq_of_covers 6 _ (by decide +kernel) fun t hf y => ?_
  blk_simp
  rw [after1_6]
  unfold_out out1_6
  frame_out
  obtain ⟨p, k, rfl⟩ : ∃ (p : Fin 256) (k : Fin 8), y = ix2 p k := ⟨y 0, y 1, eq_ix2 y⟩
  have e : (win1_6.blk t).view.emb (ix2 p k) = ix2 (row t p) k := by
    blk_ext [(index1 t).2.2.2.2.2.2, row]
  refine (congrFun (congrArg (k1_pay1 (F := Ideal)) (Rounds.printed_cols _ _ _ _ _)) _).trans
    ((Rounds.cols_row _ p (scored V c (row t p)) (h _) (block_scores V c t p) k).trans ?_)
  exact (congrArg (leadCols (scored V c)) e).symm

end Cert.KernelIdeal.Arrays

end
-- ==== Proof.KernelRun.lean ====
/-
  The kernel program's run: each of the four results at the contents the last segment leaves, and those contents as
  functions of the arguments.
-/
module

public import proofs.«01_k».proof.Proof.Arrays

@[expose] public section

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.Order

local notation "𝕄" => MT nD τ sig Unit (Elt Ideal) ℕ (UR sig nD τ) ℕ

variable (m : (ℓ : Loc nD τ sig) → Buf (Elt Ideal) ℓ) (ρ : Dev nD → PrngReg)

/-! ## The results' contents at the end -/

theorem W2_out (c : Dev nD) (w : Fin cfg0.W) (h : Pipeline.arrRef spec0 w ∉ hostOps1_W) :
    W2 m ρ c (Proc.devRef .tc (Pipeline.arrRef spec0 w)) = (dat0 (V0 m ρ) c).arrAt w cfg0.N :=
  (W2_of m ρ c _ h).trans (W1_arr m ρ c w)

theorem in_base (c : Dev nD) : W2 m ρ c (Proc.devRef .tc main_v0_0)
    = k0_pay1 (F := Ideal) (m ((c : Thread nD τ).loc main_arg0)) (m ((c : Thread nD τ).loc main_arg2)) :=
  (W2_out m ρ c 3 (by decide)).trans (Arrays.final0_3 (V0 m ρ) c)

theorem in_embed (c : Dev nD) : W2 m ρ c (Proc.devRef .tc main_v0_1)
    = k0_pay2 (F := Ideal) (m ((c : Thread nD τ).loc main_arg0)) (m ((c : Thread nD τ).loc main_arg3)) :=
  (W2_out m ρ c 4 (by decide)).trans (Arrays.final0_4 (V0 m ρ) c)

theorem in_doubled (c : Dev nD) : W2 m ρ c (Proc.devRef .tc main_v0_2)
    = k0_pay4 (F := Ideal) (m ((c : Thread nD τ).loc main_arg0)) (m ((c : Thread nD τ).loc main_arg3)) :=
  (W2_out m ρ c 5 (by decide)).trans (Arrays.final0_5 (V0 m ρ) c)

theorem in_squared (c : Dev nD) : W2 m ρ c (Proc.devRef .tc main_v0_3)
    = k0_pay5 (F := Ideal) (m ((c : Thread nD τ).loc main_arg0)) (m ((c : Thread nD τ).loc main_arg3)) :=
  (W2_out m ρ c 6 (by decide)).trans (Arrays.final0_6 (V0 m ρ) c)

theorem in_temperature (c : Dev nD) : W2 m ρ c (Proc.devRef .tc main_v1)
    = shapeCast S1x1 (m ((c : Thread nD τ).loc main_arg4)) shapeCasts_S_S1x1 := by
  have h : W1 m ρ c (Proc.devRef .tc main_arg4) = m ((c : Thread nD τ).loc main_arg4) := W1_args m ρ c main_arg4 (by decide)
  rw [← h]
  rfl

theorem in_draws (c : Dev nD) : W2 m ρ c (Proc.devRef .tc main_arg5) = m ((c : Thread nD τ).loc main_arg5) :=
  W2_args m ρ c main_arg5 (by decide)

/-- The scores as the arguments give them. -/
def scored (x : Vec Ideal S4096x128 .f32) (w : Vec Ideal S128x128 .f32) (t : Vec Ideal S_ .f32) (q : Vec Ideal S4096x4096 .f32) :
    Fin 4096 → Fin 4096 → EReal :=
  Arrays.scores (shapeCast S1x1 t shapeCasts_S_S1x1) (k0_pay2 x w) (k0_pay4 x w) (k0_pay5 x w) q

/-- The scores the kernel works on at device `c`. -/
abbrev scoredAt (c : Dev nD) : Fin 4096 → Fin 4096 → EReal :=
  scored (m ((c : Thread nD τ).loc main_arg0)) (m ((c : Thread nD τ).loc main_arg3)) (m ((c : Thread nD τ).loc main_arg4))
    (m ((c : Thread nD τ).loc main_arg5))

theorem scored_eq (c : Dev nD) : Arrays.scored (V2 m ρ) c = scoredAt m c := by
  unfold scoredAt scored Arrays.scored
  rw [← in_temperature m ρ c, ← in_embed m ρ c, ← in_doubled m ρ c, ← in_squared m ρ c, ← in_draws m ρ c]

theorem out_base (c : Dev nD) : W4 m ρ c (Proc.devRef .tc main_v0_0)
    = k0_pay1 (F := Ideal) (m ((c : Thread nD τ).loc main_arg0)) (m ((c : Thread nD τ).loc main_arg2)) :=
  (W4_of m ρ c _ (by decide)).trans ((W3_of m ρ c _ (by decide)).trans (in_base m ρ c))

theorem out_embed (c : Dev nD) : W4 m ρ c (Proc.devRef .tc main_v0_1)
    = k0_pay2 (F := Ideal) (m ((c : Thread nD τ).loc main_arg0)) (m ((c : Thread nD τ).loc main_arg3)) :=
  (W4_of m ρ c _ (by decide)).trans ((W3_of m ρ c _ (by decide)).trans (in_embed m ρ c))

theorem out_vals (c : Dev nD) (h : ∀ r i, ⊥ < scoredAt m c r i) :
    W4 m ρ c (Proc.devRef .tc main_v2_0) = Arrays.leadVals (scoredAt m c) := by
  rw [← scored_eq m ρ c] at h ⊢
  exact (W4_of m ρ c _ (by decide)).trans ((W3_arr m ρ c 5).trans (Arrays.final1_5 (V2 m ρ) c h))

theorem out_cols (c : Dev nD) (h : ∀ r i, ⊥ < scoredAt m c r i) :
    W3 m ρ c (Proc.devRef .tc main_v2_1) = Arrays.leadCols (scoredAt m c) := by
  rw [← scored_eq m ρ c] at h ⊢
  exact (W3_arr m ρ c 6).trans (Arrays.final1_6 (V2 m ρ) c h)

/-- The edge list of a table of columns: every column beside its row's number, each flattened. -/
def edges (k : Vec Ideal S4096x8 .i32) : Vec Ideal S1x2x32768 .i32 :=
  concatenate S1x2x32768 1
    [⟨S1x1x32768, broadcastInDim S1x1x32768 ![0, 2] bcast_S1x32768_S1x1x32768_0_2 (shapeCast S1x32768 k shapeCasts_S4096x8_S1x32768)⟩,
     ⟨S1x1x32768, broadcastInDim S1x1x32768 ![0, 2] bcast_S1x32768_S1x1x32768_0_2
        (shapeCast S1x32768 (shapeCast S1x4096x8
          (broadcastInDim S1x1x1x4096x8x1 ![0, 1, 2, 3, 4, 5] bcast_S1x1x1x4096x1x1_S1x1x1x4096x8x1_0_1_2_3_4_5
            (shapeCast S1x1x1x4096x1x1 (shapeCast S1x4096x1 (iotaInDim S4096 32 0) shapeCasts_S4096_S1x4096x1)
              shapeCasts_S1x4096x1_S1x1x1x4096x1x1)) shapeCasts_S1x1x1x4096x8x1_S1x4096x8) shapeCasts_S1x4096x8_S1x32768)⟩]
    concatenates_S1x1x32768_S1x1x32768_S1x2x32768_d1

theorem out_edges (c : Dev nD) : W4 m ρ c (Proc.devRef .tc main_v12) = edges (W3 m ρ c (Proc.devRef .tc main_v2_1)) := by
  unfold W4 edges
  generalize W3 m ρ c = W
  after_results
  rfl

/-! ## The run -/

-- the launch rule's implicit arguments are found by unfolding plain definitions inside a metavariable's type
set_option backward.isDefEq.respectTransparency.types false in
/-- Every fair execution of the kernel program ends, with each result as above and the arguments as launched. -/
theorem run : θ_run defs (onTc (τ := τ) (main (F := Ideal))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  (θ_run defs _ _).mono (fun _ h => h) <|
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

end Cert.KernelIdeal.KernelRun

end
-- ==== Proof.RefRead.lean ====
/-
  The reference's scores and its top-eight selection, read at an index.
-/
module

public import proofs.«01_k».proof.Proof.Gen.ReferenceIdeal.Read
public import proofs.«01_k».proof.Proof.Order
public import Idealize.ShloMosaic.Lib.Pointwise

@[expose] public section

set_option maxRecDepth 16384

noncomputable section

namespace Cert.ReferenceIdeal.RefRead

open Idealize.ShloMosaic Idealize.ShloMosaic.Pointwise
open Cert.ReferenceIdeal Cert.ReferenceIdeal.Gen Cert.ReferenceIdeal.Read Cert.Order

/-! ## The selection -/

theorem greater_iff (u v : EReal) : (FloatOps.cmpfTotal (F := Ideal) (φ := .f32) .gt u v == 1#1) = decide (v < u) := by
  change (Ideal.cmp .ogt u v == 1#1) = _
  by_cases h : v < u <;> simp [Ideal.cmp, h]

variable {n0 n1 k1 : Nat}

/-- A place of row `r` with its column replaced. -/
theorem along_row (r : Fin n0) (i k : Fin n1) : (ix2 r i : (⟨2, ![n0, n1]⟩ : Shape).Idx).along 1 k = ix2 r k := by
  funext a
  fin_cases a <;> rfl

theorem sorted_row (x : (⟨2, ![n0, n1]⟩ : Shape).Idx → EReal) (r : Fin n0) (i : Fin n1) :
    (sortedFrom (fun k k' : Fin n1 => FloatOps.cmpfTotal (F := Ideal) (φ := .f32) .gt
        (x ((ix2 r i : (⟨2, ![n0, n1]⟩ : Shape).Idx).along 1 k))
        (x ((ix2 r i : (⟨2, ![n0, n1]⟩ : Shape).Idx).along 1 k')) == 1#1) i : Fin n1)
      = lead (fun i => x (ix2 r i)) i := by
  unfold lead
  simp only [greater_iff, along_row]

theorem cut_index (hk : k1 ≤ n1) (r : Fin n0) (k : Fin k1) (h : (⟨2, ![n0, n1]⟩ : Shape).Slices (fun _ => 0) ⟨2, ![n0, k1]⟩) :
    (fun a => ⟨0 + ((ix2 r k : (⟨2, ![n0, k1]⟩ : Shape).Idx) (a.cast h.1.symm)).val,
        Nat.lt_of_lt_of_le (Nat.add_lt_add_left (Fin.isLt _) _) (h.2 a)⟩ : (⟨2, ![n0, n1]⟩ : Shape).Idx)
      = ix2 r ⟨k.val, by omega⟩ := by
  funext a
  fin_cases a <;> exact Fin.ext (Nat.zero_add _)

theorem topK_val (hk : k1 ≤ n1) (x : (⟨2, ![n0, n1]⟩ : Shape).Idx → EReal)
    (h : (⟨2, ![n0, n1]⟩ : Shape).Slices (fun _ => 0) ⟨2, ![n0, k1]⟩) (r : Fin n0) (k : Fin k1) :
    (Host.topK ⟨2, ![n0, k1]⟩ 1 (FloatOps.cmpfTotal (F := Ideal) (φ := .f32) .gt) x h).1 (ix2 r k)
      = x (ix2 r (lead (fun i => x (ix2 r i)) ⟨k.val, by omega⟩)) := by
  unfold Host.topK extractStridedSlice
  dsimp only
  rw [cut_index hk r k h]
  exact (congrArg (fun z => x ((ix2 r _ : (⟨2, ![n0, n1]⟩ : Shape).Idx).along 1 z)) (sorted_row x r ⟨k.val, by omega⟩)).trans
    (congrArg x (along_row r _ _))

theorem topK_idx (hk : k1 ≤ n1) (x : (⟨2, ![n0, n1]⟩ : Shape).Idx → EReal)
    (h : (⟨2, ![n0, n1]⟩ : Shape).Slices (fun _ => 0) ⟨2, ![n0, k1]⟩) (r : Fin n0) (k : Fin k1) :
    (Host.topK ⟨2, ![n0, k1]⟩ 1 (FloatOps.cmpfTotal (F := Ideal) (φ := .f32) .gt) x h).2 (ix2 r k)
      = BitVec.ofNat 32 (lead (fun i => x (ix2 r i)) ⟨k.val, by omega⟩).val := by
  unfold Host.topK extractStridedSlice
  dsimp only
  rw [cut_index hk r k h]
  exact congrArg (fun z : Fin n1 => BitVec.ofNat 32 z.val) (sorted_row x r ⟨k.val, by omega⟩)

/-! ## The scores -/

theorem base_apply (x : Vec Ideal S4096x128 .f32) (w : Vec Ideal S128x128 .f32) (r : Fin 4096) (j : Fin 128) :
    val_main_v0 (F := Ideal) x w (ix2 r j) = ∑ k : Fin 128, x (ix2 r k) * w (ix2 k j) := by
  pointwise [val_main_v0]

theorem embed_apply (x : Vec Ideal S4096x128 .f32) (w : Vec Ideal S128x128 .f32) (r : Fin 4096) (j : Fin 128) :
    val_main_v1 (F := Ideal) x w (ix2 r j) = ∑ k : Fin 128, x (ix2 r k) * w (ix2 k j) := by
  pointwise [val_main_v1]

theorem gram_apply (x : Vec Ideal S4096x128 .f32) (w : Vec Ideal S128x128 .f32) (r i : Fin 4096) :
    val_main_v10 (F := Ideal) x w (ix2 r i)
      = ∑ k : Fin 128, val_main_v1 (F := Ideal) x w (ix2 r k) * val_main_v1 (F := Ideal) x w (ix2 i k) := by
  pointwise [val_main_v10, val_main_v9]

theorem norm_apply (x : Vec Ideal S4096x128 .f32) (w : Vec Ideal S128x128 .f32) (r : Fin 4096) :
    val_main_v3 (F := Ideal) x w (ix1 r)
      = ∑ k : Fin 128, val_main_v1 (F := Ideal) x w (ix2 r k) * val_main_v1 (F := Ideal) x w (ix2 r k) := by
  pointwise [val_main_v3, val_main_v2, val_main_cst]

theorem dist_apply (x : Vec Ideal S4096x128 .f32) (w : Vec Ideal S128x128 .f32) (r i : Fin 4096) :
    val_main_v15 (F := Ideal) x w (ix2 r i)
      = max ((val_main_v3 (F := Ideal) x w (ix1 r) + val_main_v3 (F := Ideal) x w (ix1 i))
          - Ideal.ofBits .f32 0x40000000#32 * val_main_v10 (F := Ideal) x w (ix2 r i)) 0 := by
  pointwise [val_main_v15, val_main_v14, val_main_v13, val_main_v12, val_main_v11, val_main_v8, val_main_v7, val_main_v6, val_main_v5,
    val_main_v4, val_main_cst_0, val_main_cst_1]

theorem scale_apply (t : Vec Ideal S_ .f32) (r i : Fin 4096) :
    val_main_v18 (F := Ideal) t (ix2 r i)
      = Ideal.exp (min (Ideal.ofBits .f32 0x40A00000#32) (max (Ideal.ofBits .f32 0xC0A00000#32) (t ix0))) := by
  pointwise [val_main_v18, val_main_v17, val_main_v16, val_main_call0_v2, val_main_call0_v1, val_main_call0_v0, val_main_cst_2,
    val_main_cst_3]
  rfl

theorem noise_apply (q : Vec Ideal S4096x4096 .f32) (r i : Fin 4096) :
    val_main_v24 (F := Ideal) q (ix2 r i) = Ideal.log (-Ideal.log (q (ix2 r i) + Ideal.ofBits .f32 0x322BCC77#32)) := by
  pointwise [val_main_v24, val_main_v23, val_main_v22, val_main_v21, val_main_v20, val_main_cst_4]

theorem score_apply (x : Vec Ideal S4096x128 .f32) (w : Vec Ideal S128x128 .f32) (t : Vec Ideal S_ .f32) (q : Vec Ideal S4096x4096 .f32)
    (r i : Fin 4096) :
    val_main_v26 (F := Ideal) x w t q (ix2 r i)
      = -(val_main_v15 (F := Ideal) x w (ix2 r i) * val_main_v18 (F := Ideal) t (ix2 r i) - val_main_v24 (F := Ideal) q (ix2 r i)) := by
  pointwise [val_main_v26, val_main_v25, val_main_v19]

end Cert.ReferenceIdeal.RefRead

end
-- ==== Proof.Given.lean ====
/-
  The precondition, read: the encoded rows and the encoding's weights are real, and every draw plus 1e-8 lies below one.
-/
module

public import proofs.«01_k».proof.Pre_drawn
public import Idealize.ShloMosaic.Lib.Pointwise
public import Idealize.ShloMosaic.Lib.ReduceAll

@[expose] public section

set_option maxRecDepth 16384

noncomputable section

namespace Cert.Given

open Idealize.ShloMosaic Idealize.ShloMosaic.Pointwise
open Cert.Pre_drawn

/-- The side conditions of the precondition's operations. -/
theorem facts : Cert.Pre_drawn.Facts :=
  ⟨by decide, by decide, by decide, by decide, by decide, by decide, by decide⟩

theorem top_word : Ideal.ofBits .f32 0x7F800000#32 = (⊤ : EReal) := by
  simp [Ideal.ofBits, Ideal.ieee]

theorem real_of_abs (v : EReal) (h : Ideal.cmp .olt (max v (-v)) (Ideal.ofBits .f32 0x7F800000#32) = 1#1) : ∃ z : ℝ, v = z := by
  rw [top_word] at h
  induction v with
  | bot => simp [Ideal.cmp] at h
  | top => simp [Ideal.cmp] at h
  | coe z => exact ⟨z, rfl⟩

variable [Cert.Pre_drawn.Facts]
variable (x : Vec Ideal S4096x128 .f32) (n : Vec Ideal S4096 .i32) (b w : Vec Ideal S128x128 .f32) (t : Vec Ideal S_ .f32)
  (q : Vec Ideal S4096x4096 .f32)

instance : Subsingleton S_.Idx := ⟨fun _ _ => funext fun a => a.elim0⟩

theorem rows_real (h : (fn (F := Ideal) x n b w t q).1 = fun _ => 1#1) (i : S4096x128.Idx) : ∃ z : ℝ, x i = z :=
  by
  have e := congrFun h ix0
  unfold fn at e
  dsimp only at e
  exact real_of_abs _ (Host.reduce_andi_all _ _ _ _ ix0 e i)

theorem weights_real (h : (fn (F := Ideal) x n b w t q).2.1 = fun _ => 1#1) (i : S128x128.Idx) : ∃ z : ℝ, w i = z :=
  by
  have e := congrFun h ix0
  unfold fn at e
  dsimp only at e
  exact real_of_abs _ (Host.reduce_andi_all _ _ _ _ ix0 e i)

theorem draws_below (h : (fn (F := Ideal) x n b w t q).2.2 = fun _ => 1#1) (i : S4096x4096.Idx) :
    q i + Ideal.ofBits .f32 0x322BCC77#32 < 1 := by
  have e := congrFun h ix0
  unfold fn at e
  dsimp only at e
  have e := Host.reduce_andi_all _ _ _ _ ix0 e i
  have e : Ideal.cmp .olt (q i + Ideal.ofBits .f32 0x322BCC77#32) (Ideal.ofBits .f32 0x3F800000#32) = 1#1 := e
  rw [Ideal.ofBits_one_f32] at e
  by_contra hn
  simp [Ideal.cmp, hn] at e

end Cert.Given

end
-- ==== Proof.Equal.lean ====
/-
  The kernel's score and the reference's score are the same extended real, and it lies above `⊥`.
-/
module

public import Idealize.ShloMosaic.Lib.Pointwise
public import proofs.«01_k».proof.Proof.Score

@[expose] public section

set_option maxRecDepth 16384

noncomputable section

namespace Cert.Equal

open Idealize.ShloMosaic

theorem two_word : Ideal.ofBits .f32 0x40000000#32 = ((2 : ℝ) : EReal) := by
  simp [Ideal.ofBits, Ideal.ieee, -EReal.coe_mul]; norm_num

theorem five_word : Ideal.ofBits .f32 0x40A00000#32 = ((5 : ℝ) : EReal) := by
  simp [Ideal.ofBits, Ideal.ieee, -EReal.coe_mul]; norm_num

theorem minus_five_word : Ideal.ofBits .f32 0xC0A00000#32 = ((-5 : ℝ) : EReal) := by
  simp [Ideal.ofBits, Ideal.ieee, -EReal.coe_mul]; norm_num

/-- A finite sum of reals is real. -/
theorem sum_real {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A sum of products of reals is real. -/
theorem dot_real {n : Nat} (f g : Fin n → EReal) (hf : ∀ k, ∃ z : ℝ, f k = z) (hg : ∀ k, ∃ z : ℝ, g k = z) :
    ∃ z : ℝ, ∑ k, f k * g k = z := by
  choose u hu using hf
  choose v hv using hg
  exact ⟨∑ k, u k * v k, by simp only [hu, hv, ← EReal.coe_mul, sum_real]⟩

theorem max_coe (y z : ℝ) : max (y : EReal) (z : EReal) = ((max y z : ℝ) : EReal) :=
  (EReal.coe_strictMono.monotone.map_max (a := y) (b := z)).symm

theorem min_coe (y z : ℝ) : min (y : EReal) (z : EReal) = ((min y z : ℝ) : EReal) :=
  (EReal.coe_strictMono.monotone.map_min (a := y) (b := z)).symm

/-- The scale is real: the temperature is clipped before the exponential. -/
theorem scale_real (a : EReal) :
    ∃ z : ℝ, Ideal.exp (min (Ideal.ofBits .f32 0x40A00000#32) (max (Ideal.ofBits .f32 0xC0A00000#32) a)) = z := by
  rw [five_word, minus_five_word]
  induction a with
  | bot => exact ⟨_, by rw [max_eq_left bot_le, min_coe]; rfl⟩
  | top => exact ⟨_, by rw [max_eq_right le_top, min_eq_left le_top]; rfl⟩
  | coe z => exact ⟨_, by rw [max_coe, min_coe]; rfl⟩

/-- The draw's double logarithm is above `⊥` where its argument is below one. -/
theorem noise_above (v : EReal) (h : v < 1) : ⊥ < Ideal.log (-Ideal.log v) := by
  have hlow : ⊥ < Ideal.log (-(⊥ : EReal)) := by
    rw [EReal.neg_bot]
    exact bot_lt_top
  induction v with
  | bot => exact hlow
  | top => exact absurd h (by simp)
  | coe z =>
    have hz : z < 1 := by exact_mod_cast h
    by_cases h0 : z ≤ 0
    · have e : Ideal.log (z : EReal) = ⊥ := if_pos h0
      rw [e]
      exact hlow
    · have hl : Real.log z < 0 := Real.log_neg (not_le.1 h0) hz
      have e : Ideal.log (z : EReal) = (Real.log z : EReal) := if_neg h0
      rw [e, ← EReal.coe_neg]
      have e' : Ideal.log ((-Real.log z : ℝ) : EReal) = (Real.log (-Real.log z) : EReal) := if_neg (by linarith)
      rw [e']
      exact EReal.bot_lt_coe _

/-- The squared distance of two encodings, as the kernel and as the reference write it. -/
theorem dist_real {n : Nat} (u v : Fin n → EReal) (hu : ∀ k, ∃ z : ℝ, u k = z) (hv : ∀ k, ∃ z : ℝ, v k = z) :
    ∃ z : ℝ, max ((∑ k, u k * u k) + (∑ k, v k * v k) - ∑ k, u k * (Ideal.ofBits .f32 0x40000000#32 * v k)) 0 = z
      ∧ max ((∑ k, u k * u k) + (∑ k, v k * v k) - Ideal.ofBits .f32 0x40000000#32 * ∑ k, u k * v k) 0 = z := by
  choose a ha using hu
  choose b hb using hv
  refine ⟨max ((∑ k, a k * a k) + (∑ k, b k * b k) - 2 * ∑ k, a k * b k) 0, ?_, ?_⟩
  · simp only [ha, hb, two_word, ← EReal.coe_mul, sum_real]
    rw [← EReal.coe_add, ← EReal.coe_sub, ← EReal.coe_zero, max_coe]
    congr 3
    rw [Finset.mul_sum]
    exact Finset.sum_congr rfl fun k _ => by ring
  · simp only [ha, hb, two_word, ← EReal.coe_mul, sum_real]
    rw [← EReal.coe_add, ← EReal.coe_sub, ← EReal.coe_zero, max_coe]

/-- The kernel's score of two encodings is the reference's, and it lies above `⊥`. -/
theorem score_eq (a q : EReal) (u v : Fin 128 → EReal) (hu : ∀ k, ∃ z : ℝ, u k = z) (hv : ∀ k, ∃ z : ℝ, v k = z)
    (hq : q + Ideal.ofBits .f32 0x322BCC77#32 < 1) :
    Cert.KernelIdeal.Score.entry a u (∑ k, v k * v k) (fun k => Ideal.ofBits .f32 0x40000000#32 * v k) q
        = -(max ((∑ k, u k * u k) + (∑ k, v k * v k) - Ideal.ofBits .f32 0x40000000#32 * ∑ k, u k * v k) 0
              * Ideal.exp (min (Ideal.ofBits .f32 0x40A00000#32) (max (Ideal.ofBits .f32 0xC0A00000#32) a))
            - Ideal.log (-Ideal.log (q + Ideal.ofBits .f32 0x322BCC77#32)))
      ∧ ⊥ < Cert.KernelIdeal.Score.entry a u (∑ k, v k * v k) (fun k => Ideal.ofBits .f32 0x40000000#32 * v k) q := by
  obtain ⟨d, hd, hd'⟩ := dist_real u v hu hv
  obtain ⟨e, he⟩ := scale_real a
  have hg := noise_above _ hq
  unfold Cert.KernelIdeal.Score.entry
  rw [hd, hd', he, zero_sub]
  generalize Ideal.log (-Ideal.log (q + Ideal.ofBits .f32 0x322BCC77#32)) = g at hg
  rw [← EReal.coe_mul, ← EReal.coe_mul, mul_comm d e]
  refine ⟨?_, ?_⟩
  · rw [EReal.neg_sub (Or.inl (EReal.coe_ne_bot _)) (Or.inl (EReal.coe_ne_top _)), sub_eq_add_neg, add_comm]
  · rw [sub_eq_add_neg, ← EReal.coe_neg]
    exact EReal.bot_lt_add_iff.2 ⟨hg, EReal.bot_lt_coe _⟩

end Cert.Equal

end
-- ==== Proof.Match.lean ====
/-
  The kernel's results are the reference's, stage by stage.
-/
module

public import proofs.«01_k».proof.Proof.KernelRun
public import proofs.«01_k».proof.Proof.RefRead
public import proofs.«01_k».proof.Proof.Given
public import proofs.«01_k».proof.Proof.Equal

@[expose] public section

set_option maxRecDepth 16384

noncomputable section

namespace Cert.Match

open Idealize.ShloMosaic Idealize.ShloMosaic.Pointwise
open Cert.KernelIdeal (S4096x128 S128x128 S_ S4096x4096 S4096x8 S1x1 S1x2x32768)
open Cert.KernelIdeal.Gen Cert.ReferenceIdeal.Read Cert.KernelIdeal

variable (x : Vec Ideal S4096x128 .f32) (w : Vec Ideal S128x128 .f32) (t : Vec Ideal S_ .f32) (q : Vec Ideal S4096x4096 .f32)

theorem base_eq : k0_pay1 x w = val_main_v0 (F := Ideal) x w := by
  funext i
  obtain ⟨r, j, rfl⟩ : ∃ (r : Fin 4096) (j : Fin 128), i = ix2 r j := ⟨i 0, i 1, eq_ix2 i⟩
  rw [Score.base_apply, ReferenceIdeal.RefRead.base_apply]

theorem embed_eq : k0_pay2 x w = val_main_v1 (F := Ideal) x w := by
  funext i
  obtain ⟨r, j, rfl⟩ : ∃ (r : Fin 4096) (j : Fin 128), i = ix2 r j := ⟨i 0, i 1, eq_ix2 i⟩
  rw [Score.embed_apply, ReferenceIdeal.RefRead.embed_apply]

theorem one_cell (t : Vec Ideal S_ .f32) : shapeCast S1x1 t shapeCasts_S_S1x1 (ix2 0 0) = t ix0 := by
  pointwise

section Drawn

variable (hx : ∀ i, ∃ z : ℝ, x i = z) (hw : ∀ i, ∃ z : ℝ, w i = z) (hq : ∀ i, q i + Ideal.ofBits .f32 0x322BCC77#32 < 1)

include hx hw in
/-- Every encoding is real. -/
theorem embed_real (r : Fin 4096) (j : Fin 128) : ∃ z : ℝ, k0_pay2 x w (ix2 r j) = z := by
  rw [Score.embed_apply]
  exact Equal.dot_real _ _ (fun k => hx _) (fun k => hw _)

include hx hw hq in
/-- Every score is the reference's, and lies above `⊥`. -/
theorem score_both (r i : Fin 4096) :
    KernelRun.scored x w t q r i = val_main_v26 (F := Ideal) x w t q (ix2 r i) ∧ ⊥ < KernelRun.scored x w t q r i := by
  have h := Equal.score_eq (t ix0) (q (ix2 r i)) (fun k => k0_pay2 x w (ix2 r k)) (fun k => k0_pay2 x w (ix2 i k))
    (embed_real x w hx hw r) (embed_real x w hx hw i) (hq _)
  have e : KernelRun.scored x w t q r i
      = Score.entry (t ix0) (fun k => k0_pay2 x w (ix2 r k)) (∑ k, k0_pay2 x w (ix2 i k) * k0_pay2 x w (ix2 i k))
          (fun k => Ideal.ofBits .f32 0x40000000#32 * k0_pay2 x w (ix2 i k)) (q (ix2 r i)) := by
    unfold KernelRun.scored Arrays.scores
    rw [one_cell, Score.squared_apply]
    simp only [Score.doubled_apply]
  rw [e]
  refine ⟨h.1.trans ?_, h.2⟩
  rw [ReferenceIdeal.RefRead.score_apply, ReferenceIdeal.RefRead.dist_apply, ReferenceIdeal.RefRead.scale_apply,
    ReferenceIdeal.RefRead.noise_apply, ReferenceIdeal.RefRead.gram_apply, ReferenceIdeal.RefRead.norm_apply,
    ReferenceIdeal.RefRead.norm_apply, embed_eq]

include hx hw hq in
theorem score_above (r i : Fin 4096) : ⊥ < KernelRun.scored x w t q r i := (score_both x w t q hx hw hq r i).2

include hx hw hq in
theorem score_row (r : Fin 4096) : KernelRun.scored x w t q r = fun i => val_main_v26 (F := Ideal) x w t q (ix2 r i) :=
  funext fun i => (score_both x w t q hx hw hq r i).1

include hx hw hq in
theorem vals_eq : Arrays.leadVals (KernelRun.scored x w t q) = val_main_values (F := Ideal) x w t q := by
  funext i
  obtain ⟨r, k, rfl⟩ : ∃ (r : Fin 4096) (k : Fin 8), i = ix2 r k := ⟨i 0, i 1, eq_ix2 i⟩
  refine Eq.trans ?_ (ReferenceIdeal.RefRead.topK_val (by omega) (val_main_v26 (F := Ideal) x w t q) _ r k).symm
  change KernelRun.scored x w t q r (Order.lead (KernelRun.scored x w t q r) _) = _
  rw [score_row x w t q hx hw hq]
  rfl

include hx hw hq in
theorem cols_eq : Arrays.leadCols (KernelRun.scored x w t q) = val_main_indices (F := Ideal) x w t q := by
  funext i
  obtain ⟨r, k, rfl⟩ : ∃ (r : Fin 4096) (k : Fin 8), i = ix2 r k := ⟨i 0, i 1, eq_ix2 i⟩
  refine Eq.trans ?_ (ReferenceIdeal.RefRead.topK_idx (by omega) (val_main_v26 (F := Ideal) x w t q) _ r k).symm
  change BitVec.ofNat 32 (Order.lead (KernelRun.scored x w t q r) _).val = _
  rw [score_row x w t q hx hw hq]
  rfl

end Drawn

/-- The reference's edge list is that of its table of columns. -/
theorem edges_eq : KernelRun.edges (val_main_indices (F := Ideal) x w t q) = val_main_v36 (F := Ideal) x w t q := rfl

end Cert.Match

end
-- ==== Proof.Algebraic.lean ====
/-
  The two programs' runs put side by side: equal arguments that satisfy the precondition give equal results.
-/
module

public import proofs.«01_k».proof.Defs
public import proofs.«01_k».proof.Proof.Match

@[expose] public section

set_option maxRecDepth 16384

noncomputable section

namespace Cert.Algebraic

open Idealize.ShloMosaic Idealize.ShloMosaic.TcCoe Idealize.SL.Sem
open Cert.ReferenceIdeal.Read

/-- The kernel program ends with the reference's four values of its arguments, and leaves the arguments as they were. -/
theorem kernel_run (hPre : Cert.Pre_drawn.Facts)
    (m : (ℓ : Loc Cert.KernelIdeal.nD Cert.KernelIdeal.τ Cert.KernelIdeal.sig) → Buf (Elt Ideal) ℓ)
    (g : Dev Cert.KernelIdeal.nD → PrngReg) (h : Pre_KernelIdeal_drawn m) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0_0)
            = val_main_v0 (F := Ideal) (m (c.tc.loc Cert.KernelIdeal.main_arg0)) (m (c.tc.loc Cert.KernelIdeal.main_arg2))
        ∧ r.2.mem ((c.tc : Thread Cert.KernelIdeal.nD Cert.KernelIdeal.τ).loc Cert.KernelIdeal.main_v0_1)
            = val_main_v1 (F := Ideal) (m (c.tc.loc Cert.KernelIdeal.main_arg0)) (m (c.tc.loc Cert.KernelIdeal.main_arg3))
        ∧ r.2.mem ((c.tc : Thread Cert.KernelIdeal.nD Cert.KernelIdeal.τ).loc Cert.KernelIdeal.main_v12)
            = val_main_v36 (F := Ideal) (m (c.tc.loc Cert.KernelIdeal.main_arg0)) (m (c.tc.loc Cert.KernelIdeal.main_arg3))
                (m (c.tc.loc Cert.KernelIdeal.main_arg4)) (m (c.tc.loc Cert.KernelIdeal.main_arg5))
        ∧ r.2.mem ((c.tc : Thread Cert.KernelIdeal.nD Cert.KernelIdeal.τ).loc Cert.KernelIdeal.main_v2_0)
            = val_main_values (F := Ideal) (m (c.tc.loc Cert.KernelIdeal.main_arg0)) (m (c.tc.loc Cert.KernelIdeal.main_arg3))
                (m (c.tc.loc Cert.KernelIdeal.main_arg4)) (m (c.tc.loc Cert.KernelIdeal.main_arg5))
        ∧ ∀ a ∈ Cert.KernelIdeal.Gen.argRefs,
            r.2.mem ((c.tc : Thread Cert.KernelIdeal.nD Cert.KernelIdeal.τ).loc a) = m (c.tc.loc a)) := by
  refine (θ_run Cert.KernelIdeal.defs _ _).mono (fun r hr c => ?_) (Cert.KernelIdeal.KernelRun.run m g)
  obtain ⟨h0, h1, h2⟩ := h c
  have hx := Given.rows_real _ _ _ _ _ _ h0
  have hw := Given.weights_real _ _ _ _ _ _ h1
  have hq := Given.draws_below _ _ _ _ _ _ h2
  have hs := Match.score_above _ _ (m (c.tc.loc Cert.KernelIdeal.main_arg4)) _ hx hw hq
  refine ⟨?_, ?_, ?_, ?_, fun a ha => ?_⟩
  · exact (hr c _ (by decide)).trans ((Cert.KernelIdeal.KernelRun.out_base m g c).trans (Match.base_eq _ _))
  · exact (hr c _ (by decide)).trans ((Cert.KernelIdeal.KernelRun.out_embed m g c).trans (Match.embed_eq _ _))
  · exact (hr c _ (by decide)).trans ((Cert.KernelIdeal.KernelRun.out_edges m g c).trans
      ((congrArg Cert.KernelIdeal.KernelRun.edges
        ((Cert.KernelIdeal.KernelRun.out_cols m g c hs).trans (Match.cols_eq _ _ _ _ hx hw hq))).trans (Match.edges_eq _ _ _ _)))
  · exact (hr c _ (by decide)).trans
      ((Cert.KernelIdeal.KernelRun.out_vals m g c hs).trans (Match.vals_eq _ _ _ _ hx hw hq))
  · exact (hr c a ((by decide : ∀ a ∈ Cert.KernelIdeal.Gen.argRefs, ¬ (Proc.devRef .tc a : DevRef Cert.KernelIdeal.τ
      Cert.KernelIdeal.sig).isScoped) a ha)).trans (Cert.KernelIdeal.Gen.W4_args m g c a ha)

theorem algebraic (hPre : Cert.Pre_drawn.Facts) : algebraic_KernelIdeal_ReferenceIdeal_pre_drawn
    (hKernelIdeal := Cert.KernelIdeal.Gen.facts) (hReferenceIdeal := Cert.ReferenceIdeal.Gen.facts) (hPre_drawn := hPre) := by
  intro m g m' g' h e
  refine ⟨fun c => val_main_v0 (F := Ideal) (m (c.tc.loc Cert.KernelIdeal.main_arg0)) (m (c.tc.loc Cert.KernelIdeal.main_arg2)),
    fun c => val_main_v1 (F := Ideal) (m (c.tc.loc Cert.KernelIdeal.main_arg0)) (m (c.tc.loc Cert.KernelIdeal.main_arg3)),
    fun c => val_main_v36 (F := Ideal) (m (c.tc.loc Cert.KernelIdeal.main_arg0)) (m (c.tc.loc Cert.KernelIdeal.main_arg3))
      (m (c.tc.loc Cert.KernelIdeal.main_arg4)) (m (c.tc.loc Cert.KernelIdeal.main_arg5)),
    fun c => val_main_values (F := Ideal) (m (c.tc.loc Cert.KernelIdeal.main_arg0)) (m (c.tc.loc Cert.KernelIdeal.main_arg3))
      (m (c.tc.loc Cert.KernelIdeal.main_arg4)) (m (c.tc.loc Cert.KernelIdeal.main_arg5)),
    (θ_run Cert.KernelIdeal.defs _ _).mono (fun r hr c => ?_) (kernel_run hPre m g h),
    (θ_run Cert.ReferenceIdeal.defs _ _).mono (fun r hr c => ?_) (Cert.ReferenceIdeal.Value.run (F := Ideal) m' g')⟩
  · obtain ⟨h0, h1, h2, h3, ha⟩ := hr c
    exact ⟨h0, h1, h2, h3, ha _ (by decide), ha _ (by decide), ha _ (by decide), ha _ (by decide), ha _ (by decide), ha _ (by decide)⟩
  · obtain ⟨h0, h1, h2, h3, ha⟩ := hr c
    obtain ⟨e0, _, e2, e3, e4, e5⟩ := e c
    rw [e0, e2] at h0
    rw [e0, e3] at h1
    rw [e0, e3, e4, e5] at h2 h3
    exact ⟨h0, h1, h2, h3, ha⟩

end Cert.Algebraic

end
-- ==== Proof.lean ====
/-
  The certificate's claim, assembled: the side conditions, the frames of the three programs, and the equality of the
  kernel's results with the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic

@[expose] public section

set_option maxRecDepth 16384

namespace Cert.Proof

open Idealize.ShloMosaic Idealize.ShloMosaic.TcCoe Idealize.SL.Sem

/-- The reference program ends with its arguments unchanged and every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Given.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, Cert.Algebraic.algebraic Cert.Given.facts⟩

end Cert.Proof
